-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_not_negative [hPre_segments_not_negative : Cert.Pre_segments_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_segments_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_not_negative [hPre_segments_not_negative : Cert.Pre_segments_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_segments_not_negative [hKernelIdeal : Cert.KernelIdeal.Facts] [hPre_segments_not_negative : Cert.Pre_segments_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_segments_not_negative [hReferenceIdeal : Cert.ReferenceIdeal.Facts] [hPre_segments_not_negative : Cert.Pre_segments_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_segments_not_negative [hKernelIdeal : Cert.KernelIdeal.Facts] [hReferenceIdeal : Cert.ReferenceIdeal.Facts] [hPre_segments_not_negative : Cert.Pre_segments_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_segments_not_negative : Cert.Pre_segments_not_negative.Facts),
    quiescent_Kernel (hKernel := hKernel)
    ∧ quiescent_KernelIdeal (hKernelIdeal := hKernelIdeal)
    ∧ quiescent_KernelIdeal_pre_segments_not_negative (hKernelIdeal := hKernelIdeal) (hPre_segments_not_negative := hPre_segments_not_negative)
    ∧ quiescent_ReferenceIdeal (hReferenceIdeal := hReferenceIdeal)
    ∧ quiescent_ReferenceIdeal_pre_segments_not_negative (hReferenceIdeal := hReferenceIdeal) (hPre_segments_not_negative := hPre_segments_not_negative)
    ∧ preserves_Kernel_KernelIdeal
    ∧ algebraic_KernelIdeal_ReferenceIdeal_pre_segments_not_negative (hKernelIdeal := hKernelIdeal) (hReferenceIdeal := hReferenceIdeal) (hPre_segments_not_negative := hPre_segments_not_negative)
-- ==== Pre_segments_not_negative.lean ====
abbrev S32768x32 : Shape := ⟨2, ![32768, 32]⟩
abbrev S32768 : Shape := ⟨1, ![32768]⟩
abbrev S64x32 : Shape := ⟨2, ![64, 32]⟩
abbrev S64 : Shape := ⟨1, ![64]⟩
abbrev S64x64 : Shape := ⟨2, ![64, 64]⟩
abbrev S8x64 : Shape := ⟨2, ![8, 64]⟩
abbrev S8 : Shape := ⟨1, ![8]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x32 .f32) (main_arg1 : IVec S32768 32) (main_arg2 : FVec F S64x32 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S8x64 .f32) (main_arg17 : FVec F S8 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 1 := constantI S_ 1 1#1
  let main_v2 : IVec S_ 1 := (fun x v => Host.reduce IntOp.andi x v reducesTo_S32768_S_d0 h_S_) main_v1 main_c_0
  main_v2
-- ==== Kernel.lean ====
abbrev S32768x32 : Shape := ⟨2, ![32768, 32]⟩
abbrev S32768 : Shape := ⟨1, ![32768]⟩
abbrev S64x32 : Shape := ⟨2, ![64, 32]⟩
abbrev S64 : Shape := ⟨1, ![64]⟩
abbrev S64x64 : Shape := ⟨2, ![64, 64]⟩
abbrev S8x64 : Shape := ⟨2, ![8, 64]⟩
abbrev S8 : Shape := ⟨1, ![8]⟩
abbrev S8x1x4096 : Shape := ⟨3, ![8, 1, 4096]⟩
abbrev S32x64 : Shape := ⟨2, ![32, 64]⟩
abbrev S1x64 : Shape := ⟨2, ![1, 64]⟩
abbrev S64x8 : Shape := ⟨2, ![64, 8]⟩
abbrev S1x8 : Shape := ⟨2, ![1, 8]⟩
abbrev S16x8 : Shape := ⟨2, ![16, 8]⟩
abbrev S4096x32 : Shape := ⟨2, ![4096, 32]⟩
abbrev S1x1x4096 : Shape := ⟨3, ![1, 1, 4096]⟩
abbrev S16x65 : Shape := ⟨2, ![16, 65]⟩
abbrev S4096x64 : Shape := ⟨2, ![4096, 64]⟩
abbrev S4096 : Shape := ⟨1, ![4096]⟩
abbrev S4096x1 : Shape := ⟨2, ![4096, 1]⟩
abbrev S1x4096 : Shape := ⟨2, ![1, 4096]⟩
abbrev S16x4096 : Shape := ⟨2, ![16, 4096]⟩
abbrev S4096x65 : Shape := ⟨2, ![4096, 65]⟩
abbrev S16x1 : Shape := ⟨2, ![16, 1]⟩
abbrev S16x64 : Shape := ⟨2, ![16, 64]⟩
abbrev S16 : Shape := ⟨1, ![16]⟩

abbrev nBuf : Space → Nat
  | .hbm => 36
  | .vmem => 22
  | .smem => 0
  | _ => 0

abbrev bufTy : (tb : Table) → Fin (tcTables nBuf tb) → BufTy
  | .hbm, ⟨0, _⟩ => ⟨S32768x32, .f32⟩
  | .hbm, ⟨1, _⟩ => ⟨S32768, .i32⟩
  | .hbm, ⟨2, _⟩ => ⟨S64x32, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S8x64, .f32⟩
  | .hbm, ⟨17, _⟩ => ⟨S8, .f32⟩
  | .hbm, ⟨18, _⟩ => ⟨S8x1x4096, .i32⟩
  | .hbm, ⟨19, _⟩ => ⟨S32x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S64x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S64x64, .f32⟩
  | .hbm, ⟨28, _⟩ => ⟨S1x64, .f32⟩
  | .hbm, ⟨29, _⟩ => ⟨S64x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S64x8, .f32⟩
  | .hbm, ⟨34, _⟩ => ⟨S1x8, .f32⟩
  | .hbm, ⟨35, _⟩ => ⟨S16x8, .f32⟩
  | .local _ .vmem, ⟨0, _⟩ => ⟨S4096x32, .f32⟩
  | .local _ .vmem, ⟨1, _⟩ => ⟨S4096x32, .f32⟩
  | .local _ .vmem, ⟨2, _⟩ => ⟨S1x1x4096, .i32⟩
  | .local _ .vmem, ⟨3, _⟩ => ⟨S1x1x4096, .i32⟩
  | .local _ .vmem, ⟨4, _⟩ => ⟨S32x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x8, .f32⟩
  | .local _ .vmem, ⟨19, _⟩ => ⟨S1x8, .f32⟩
  | .local _ .vmem, ⟨20, _⟩ => ⟨S16x8, .f32⟩
  | .local _ .vmem, ⟨21, _⟩ => ⟨S16x65, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v96 : BitVec 1 := Scalar.cmpi .eq arg0 c7_i32
  let v97 : BitVec 32 := Scalar.extui v96
  let c0_i32_45 : BitVec 32 := 0#32
  let v98 : BitVec 1 := Scalar.cmpi .ne v97 c0_i32_45
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S32768x32 : Shape := ⟨2, ![32768, 32]⟩
abbrev S32768 : Shape := ⟨1, ![32768]⟩
abbrev S64x32 : Shape := ⟨2, ![64, 32]⟩
abbrev S64 : Shape := ⟨1, ![64]⟩
abbrev S64x64 : Shape := ⟨2, ![64, 64]⟩
abbrev S8x64 : Shape := ⟨2, ![8, 64]⟩
abbrev S8 : Shape := ⟨1, ![8]⟩
abbrev S32x64 : Shape := ⟨2, ![32, 64]⟩
abbrev S32768x64 : Shape := ⟨2, ![32768, 64]⟩
abbrev S1x64 : Shape := ⟨2, ![1, 64]⟩
abbrev S_ : Shape := ⟨0, ![]⟩
abbrev S32768x1 : Shape := ⟨2, ![32768, 1]⟩
abbrev S16 : Shape := ⟨1, ![16]⟩
abbrev S16x64 : Shape := ⟨2, ![16, 64]⟩
abbrev S16x1 : Shape := ⟨2, ![16, 1]⟩
abbrev S64x8 : Shape := ⟨2, ![64, 8]⟩
abbrev S16x8 : Shape := ⟨2, ![16, 8]⟩
abbrev S1x8 : Shape := ⟨2, ![1, 8]⟩

abbrev nBuf : Space → Nat
  | .hbm => 168
  | .vmem => 0
  | .smem => 0
  | _ => 0

abbrev hbmTy0_0 (i : Nat) : BufTy := match i % 128 with
  | 0 => ⟨S32768x32, .f32⟩
  | 1 => ⟨S32768, .i32⟩
  | 2 => ⟨S64x32, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S8x64, .f32⟩
  | 17 => ⟨S8, .f32⟩
  | 18 => ⟨S32x64, .f32⟩
  | 19 => ⟨S32768x64, .f32⟩
  | 20 => ⟨S1x64, .f32⟩
  | 21 => ⟨S32768x64, .f32⟩
  | 22 => ⟨S32768x64, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S32768x64, .f32⟩
  | 30 => ⟨S32768x64, .f32⟩
  | 31 => ⟨S32768x64, .f32⟩
  | 32 => ⟨S_, .f32⟩
  | 33 => ⟨S32768, .f32⟩
  | 34 => ⟨S32768x1, .f32⟩
  | 35 => ⟨S_, .f32⟩
  | 36 => ⟨S32768x1, .f32⟩
  | 37 => ⟨S32768x1, .f32⟩
  | 38 => ⟨S32768x64, .f32⟩
  | 39 => ⟨S32768x64, .f32⟩
  | 40 => ⟨S_, .f32⟩
  | 41 => ⟨S32768x1, .f32⟩
  | 42 => ⟨S32768x1, .f32⟩
  | 43 => ⟨S32768x1, .f32⟩
  | 44 => ⟨S32768x64, .f32⟩
  | 45 => ⟨S32768x64, .f32⟩
  | 46 => ⟨S1x64, .f32⟩
  | 47 => ⟨S32768x64, .f32⟩
  | 48 => ⟨S32768x64, .f32⟩
  | 49 => ⟨S1x64, .f32⟩
  | 50 => ⟨S32768x64, .f32⟩
  | 51 => ⟨S32768x64, .f32⟩
  | 52 => ⟨S_, .f32⟩
  | 53 => ⟨S32768x64, .f32⟩
  | 54 => ⟨S32768x64, .f32⟩
  | 55 => ⟨S64x64, .f32⟩
  | 56 => ⟨S32768x64, .f32⟩
  | 57 => ⟨S1x64, .f32⟩
  | 58 => ⟨S32768x64, .f32⟩
  | 59 => ⟨S32768x64, .f32⟩
  | 60 => ⟨S_, .f32⟩
  | 61 => ⟨S32768, .f32⟩
  | 62 => ⟨S32768x1, .f32⟩
  | 63 => ⟨S_, .f32⟩
  | 64 => ⟨S32768x1, .f32⟩
  | 65 => ⟨S32768x1, .f32⟩
  | 66 => ⟨S32768x64, .f32⟩
  | 67 => ⟨S32768x64, .f32⟩
  | 68 => ⟨S32768x64, .f32⟩
  | 69 => ⟨S_, .f32⟩
  | 70 => ⟨S32768, .f32⟩
  | 71 => ⟨S32768x1, .f32⟩
  | 72 => ⟨S_, .f32⟩
  | 73 => ⟨S32768x1, .f32⟩
  | 74 => ⟨S32768x1, .f32⟩
  | 75 => ⟨S32768x64, .f32⟩
  | 76 => ⟨S32768x64, .f32⟩
  | 77 => ⟨S_, .f32⟩
  | 78 => ⟨S32768x1, .f32⟩
  | 79 => ⟨S32768x1, .f32⟩
  | 80 => ⟨S32768x1, .f32⟩
  | 81 => ⟨S32768x64, .f32⟩
  | 82 => ⟨S32768x64, .f32⟩
  | 83 => ⟨S1x64, .f32⟩
  | 84 => ⟨S32768x64, .f32⟩
  | 85 => ⟨S32768x64, .f32⟩
  | 86 => ⟨S1x64, .f32⟩
  | 87 => ⟨S32768x64, .f32⟩
  | 88 => ⟨S32768x64, .f32⟩
  | 89 => ⟨S_, .f32⟩
  | 90 => ⟨S32768x64, .f32⟩
  | 91 => ⟨S32768x64, .f32⟩
  | 92 => ⟨S64x64, .f32⟩
  | 93 => ⟨S32768x64, .f32⟩
  | 94 => ⟨S1x64, .f32⟩
  | 95 => ⟨S32768x64, .f32⟩
  | 96 => ⟨S32768x64, .f32⟩
  | 97 => ⟨S_, .i32⟩
  | 98 => ⟨S16, .i32⟩
  | 99 => ⟨S_, .i32⟩
  | 100 => ⟨S_, .i32⟩
  | 101 => ⟨S32768, .i32⟩
  | 102 => ⟨S32768, .i32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S32768x1, .i32⟩
  | 111 => ⟨S_, .i32⟩
  | 112 => ⟨S32768, .i32⟩
  | 113 => ⟨S16, .i32⟩
  | 114 => ⟨S16, .f32⟩
  | 115 => ⟨S_, .f32⟩
  | 116 => ⟨S16x64, .f32⟩
  | 117 => ⟨S32768x1, .i32⟩
  | 118 => ⟨S16x64, .f32⟩
  | 119 => ⟨S_, .f32⟩
  | 120 => ⟨S16, .f32⟩
  | 121 => ⟨S16, .f32⟩
  | 122 => ⟨S16, .f32⟩
  | 123 => ⟨S16x1, .f32⟩
  | 124 => ⟨S16x64, .f32⟩
  | 125 => ⟨S16x64, .f32⟩
  | 126 => ⟨S64x64, .f32⟩
  | 127 => ⟨S16x64, .f32⟩
  | _ => ⟨S32768x32, .f32⟩

abbrev hbmTy0_1 (i : Nat) : BufTy := match i % 128 with
  | 0 => ⟨S1x64, .f32⟩
  | 1 => ⟨S16x64, .f32⟩
  | 2 => ⟨S16x64, .f32⟩
  | 3 => ⟨S_, .f32⟩
  | 4 => ⟨S16, .f32⟩
  | 5 => ⟨S16x1, .f32⟩
  | 6 => ⟨S_, .f32⟩
  | 7 => ⟨S16x1, .f32⟩
  | 8 => ⟨S16x1, .f32⟩
  | 9 => ⟨S16x64, .f32⟩
  | 10 => ⟨S16x64, .f32⟩
  | 11 => ⟨S16x64, .f32⟩
  | 12 => ⟨S_, .f32⟩
  | 13 => ⟨S16, .f32⟩
  | 14 => ⟨S16x1, .f32⟩
  | 15 => ⟨S_, .f32⟩
  | 16 => ⟨S16x1, .f32⟩
  | 17 => ⟨S16x1, .f32⟩
  | 18 => ⟨S16x64, .f32⟩
  | 19 => ⟨S16x64, .f32⟩
  | 20 => ⟨S_, .f32⟩
  | 21 => ⟨S16x1, .f32⟩
  | 22 => ⟨S16x1, .f32⟩
  | 23 => ⟨S16x1, .f32⟩
  | 24 => ⟨S16x64, .f32⟩
  | 25 => ⟨S16x64, .f32⟩
  | 26 => ⟨S1x64, .f32⟩
  | 27 => ⟨S16x64, .f32⟩
  | 28 => ⟨S16x64, .f32⟩
  | 29 => ⟨S1x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S64x8, .f32⟩
  | 36 => ⟨S16x8, .f32⟩
  | 37 => ⟨S1x8, .f32⟩
  | 38 => ⟨S16x8, .f32⟩
  | 39 => ⟨S16x8, .f32⟩
  | _ => ⟨S32768x32, .f32⟩

abbrev hbmTy (i : Nat) : BufTy := match i / 128 with
  | 0 => hbmTy0_0 i
  | 1 => hbmTy0_1 i
  | _ => ⟨S32768x32, .f32⟩

abbrev bufTy : (tb : Table) → Fin (tcTables nBuf tb) → BufTy
  | .hbm, ⟨i, _⟩ => hbmTy i
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c : Ref sig .tc := ⟨.hbm, 97, rfl⟩
abbrev main_v65 : Ref sig .tc := ⟨.hbm, 98, rfl⟩
abbrev main_c_9 : Ref sig .tc := ⟨.hbm, 99, rfl⟩
abbrev main_call2_v0 : Ref sig .tc := ⟨.hbm, 100, rfl⟩
abbrev main_call2_v1 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_c_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_14 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_cst_16 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_17 : Ref sig .tc := ⟨.hbm, 140, rfl⟩
abbrev main_v97 : Ref sig .tc := ⟨.hbm, 141, rfl⟩
abbrev main_v98 : Ref sig .tc := ⟨.hbm, 142, rfl⟩
abbrev main_cst_18 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_call3_cst : Ref sig .tc := ⟨.hbm, 160, rfl⟩
abbrev main_call3_v0 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩

abbrev nD : Nat := 1
abbrev τ : Topo := Topo.v7x

variable {F : FTy → Type} [FloatOps F]
-- ==== Proof.Rows.lean ====
/-
  The mathematics of one row, over the extended reals: a dense layer, a layer normalisation written with a division by
  a square root and written with a reciprocal square root, and the two together. No program is named here.
-/
module

public import Idealize.ShloMosaic.PureOps.Ideal
public import Idealize.ShloMosaic.Lib.IdealHost

@[expose] public section

noncomputable section

namespace Cert.DeepSets

open Idealize.ShloMosaic

/-- The number of hidden channels, 64, as the programs spell it. -/
abbrev width : EReal := Ideal.ofBits .f32 0x42800000#32
/-- The small number under the root of a layer normalisation. -/
abbrev eps : EReal := Ideal.ofBits .f32 0x3727C5AC#32

theorem width_eq : width = ((64 : ℝ) : EReal) := by
  simp [width, Ideal.ofBits, Ideal.ieee, -EReal.coe_mul]; norm_num

theorem eps_pos : 0 < eps := by
  have h : ∃ r : ℝ, 0 < r ∧ eps = (r : EReal) := by
    refine ⟨_, ?_, by simp [eps, Ideal.ofBits, Ideal.ieee, -EReal.coe_mul]; rfl⟩
    norm_num
  obtain ⟨r, hr, e⟩ := h
  rw [e]
  exact_mod_cast hr

/-- A square is not negative, at the infinities too. -/
theorem sq_nonneg (x : EReal) : 0 ≤ x * x := by
  induction x with
  | bot => simp
  | top => simp
  | coe r => rw [← EReal.coe_mul]; exact_mod_cast mul_self_nonneg r

/-- Dividing by the root of a positive number is multiplying by its reciprocal root. -/
theorem div_sqrt (x y : EReal) (hy : 0 < y) : Ideal.div x (Ideal.sqrt y) = x * Ideal.rsqrt y := by
  induction y with
  | bot => simp at hy
  | top =>
    show Ideal.div x ⊤ = x * 0
    simp [Ideal.div]
  | coe r =>
    have hr : 0 < r := by exact_mod_cast hy
    have hn : ¬ r < 0 := not_lt.2 hr.le
    rw [Ideal.rsqrt_coe, if_neg hn, if_neg hr.ne']
    show Ideal.div x (if r < 0 then ⊥ else (Real.sqrt r : EReal)) = _
    rw [if_neg hn, Ideal.div_coe (Real.sqrt_pos.2 hr).ne', one_div]

/-- A dense layer of one row: output channel `j` against row `j` of the weights. -/
def dense {k n : ℕ} (x : Fin k → EReal) (W : Fin n → Fin k → EReal) (b : Fin n → EReal) (j : Fin n) : EReal :=
  (∑ l, x l * W j l) + b j

/-- The mean of a row. -/
def rowMean (v : Fin 64 → EReal) : EReal := Ideal.div (∑ l, v l) width

/-- The variance of a row. -/
def rowVar (v : Fin 64 → EReal) : EReal := Ideal.div (∑ l, (v l - rowMean v) * (v l - rowMean v)) width

/-- Layer normalisation of a row, by a division. -/
def rowNorm (v g b : Fin 64 → EReal) (j : Fin 64) : EReal :=
  Ideal.div (v j - rowMean v) (Ideal.sqrt (rowVar v + eps)) * g j + b j

/-- A dense layer, its normalisation and its rectifier. -/
def rowHidden {k : ℕ} (x : Fin k → EReal) (W : Fin 64 → Fin k → EReal) (b g β : Fin 64 → EReal) (j : Fin 64) : EReal :=
  max (rowNorm (dense x W b) g β j) 0

theorem var_nonneg (v : Fin 64 → EReal) : 0 ≤ rowVar v := by
  unfold rowVar
  rw [width_eq, Ideal.div_coe (by norm_num)]
  exact mul_nonneg (Finset.sum_nonneg fun l _ => sq_nonneg _) (by exact_mod_cast (by norm_num : (0 : ℝ) ≤ 1 / 64))

/-- The normalisation by a reciprocal square root is the same function. -/
theorem norm_eq (v g b : Fin 64 → EReal) (j : Fin 64) :
    (v j - rowMean v) * Ideal.rsqrt (rowVar v + eps) * g j + b j = rowNorm v g b j := by
  unfold rowNorm
  rw [div_sqrt]
  exact lt_of_lt_of_le eps_pos (le_add_of_nonneg_left (var_nonneg v))

/-- A segment's sums over the root of its size (at least one). -/
def segPool (s : Fin 64 → EReal) (n : EReal) (l : Fin 64) : EReal := Ideal.div (s l) (Ideal.sqrt (max n 1))

/-- Pooling by a reciprocal square root is the same function. -/
theorem pool_eq (s : Fin 64 → EReal) (n : EReal) (l : Fin 64) : s l * Ideal.rsqrt (max n 1) = segPool s n l := by
  unfold segPool
  rw [div_sqrt]
  exact lt_of_lt_of_le zero_lt_one (le_max_right _ _)

/-- The parameters of both networks, each weight matrix by output channel and input channel. -/
structure Params where
  W0 : Fin 64 → Fin 32 → EReal
  b0 : Fin 64 → EReal
  g0 : Fin 64 → EReal
  β0 : Fin 64 → EReal
  W1 : Fin 64 → Fin 64 → EReal
  b1 : Fin 64 → EReal
  g1 : Fin 64 → EReal
  β1 : Fin 64 → EReal
  W2 : Fin 64 → Fin 64 → EReal
  b2 : Fin 64 → EReal
  R0 : Fin 64 → Fin 64 → EReal
  c0 : Fin 64 → EReal
  gr : Fin 64 → EReal
  βr : Fin 64 → EReal
  R1 : Fin 8 → Fin 64 → EReal
  c1 : Fin 8 → EReal

/-- The first network, on one row of the input. -/
def phi (P : Params) (x : Fin 32 → EReal) : Fin 64 → EReal :=
  dense (rowHidden (rowHidden x P.W0 P.b0 P.g0 P.β0) P.W1 P.b1 P.g1 P.β1) P.W2 P.b2

/-- The sum of `f` over the rows whose segment number is `p`. -/
def segSum (idx : Fin 32768 → BitVec 32) (f : Fin 32768 → EReal) (p : Fin 16) : EReal :=
  ∑ r, if idx r = BitVec.ofNat 32 p.val then f r else 0

/-- The hidden layer of the second network before its rectifier, for segment `p`. -/
def segHidden (P : Params) (x : Fin 32768 → Fin 32 → EReal) (idx : Fin 32768 → BitVec 32) (p : Fin 16) : Fin 64 → EReal :=
  dense (segPool (fun l => segSum idx (fun r => phi P (x r) l) p) (segSum idx (fun _ => 1) p)) P.R0 P.c0

/-- What both programs compute: the second network on each segment's pooled sums. -/
def deepSets (P : Params) (x : Fin 32768 → Fin 32 → EReal) (idx : Fin 32768 → BitVec 32) (p : Fin 16) : Fin 8 → EReal :=
  dense (fun l => max (rowNorm (segHidden P x idx p) P.gr P.βr l) 0) P.R1 P.c1

end Cert.DeepSets

end
-- ==== Proof.Block.lean ====
/-
  What one grid point of the kernel computes, read at an index: the two hidden layers and the last layer of a block of
  4096 rows, the sums added into the carried accumulator, and the second network over the sixteen segments.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.DeepSets

/-- The first hidden layer, at row `r` of the block. -/
theorem first_at (x : FVec Ideal S4096x32 .f32) (W : FVec Ideal S32x64 .f32) (b g β : FVec Ideal S1x64 .f32) (r : Fin 4096) (j : Fin 64) :
    k0_pay5 (F := Ideal) x W b g β (ix2 r j)
      = rowHidden (fun l => x (ix2 r l)) (fun j l => W (ix2 l j)) (fun j => b (ix2 0 j)) (fun j => g (ix2 0 j)) (fun j => β (ix2 0 j)) j := by
  unfold rowHidden
  rw [← norm_eq]
  pointwise [k0_pay5]
  rfl

/-- The second hidden layer and the product of the last one, at row `r` of the block. -/
theorem second_at (h : FVec Ideal S4096x64 .f32) (W : FVec Ideal S64x64 .f32) (b g β : FVec Ideal S1x64 .f32) (W' : FVec Ideal S64x64 .f32) (r : Fin 4096) (j : Fin 64) :
    k0_pay6 (F := Ideal) h W b g β W' (ix2 r j)
      = ∑ l, rowHidden (fun l => h (ix2 r l)) (fun j l => W (ix2 l j)) (fun j => b (ix2 0 j)) (fun j => g (ix2 0 j)) (fun j => β (ix2 0 j)) l * W' (ix2 l j) := by
  unfold rowHidden
  simp only [← norm_eq]
  pointwise [k0_pay6]
  rfl

/-- The bias of the last layer is passed on as it is. -/
theorem bias_at (b : FVec Ideal S1x64 .f32) (j : Fin 64) : k0_pay7 (F := Ideal) b (ix2 0 j) = b (ix2 0 j) := by
  pointwise [k0_pay7]

/-- The accumulator starts at zero. -/
theorem zero_at (p : Fin 16) (q : Fin 65) : k0_pay4 (F := Ideal) (ix2 p q) = 0 := by
  pointwise [k0_pay4]

/-- The number the one-hot matrix holds: one where the two words agree, zero elsewhere. -/
theorem hot (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · rw [if_pos h, show IntOp.cmpi .eq a b = 1#1 from by simp [IntOp.cmpi, h]]
    norm_num
  · rw [if_neg h, show IntOp.cmpi .eq a b = 0#1 from by simp [IntOp.cmpi, beq_eq_false_iff_ne.2 h]]
    norm_num

/-- A block's part of the sums: for segment `p`, the rows whose number is `p`, each with a one in the last column. -/
theorem accum_at (v : FVec Ideal S4096x64 .f32) (b : FVec Ideal S1x64 .f32) (idx : IVec S1x1x4096 32) (acc : FVec Ideal S16x65 .f32) (p : Fin 16) (q : Fin 65) :
    k0_pay1 (F := Ideal) v b idx acc (ix2 p q)
      = acc (ix2 p q) + ∑ r : Fin 4096, if idx (ix3 0 0 r) = BitVec.ofNat 32 p.val
          then (if h : q.val < 64 then v (ix2 r ⟨q.val, h⟩) + b (ix2 0 ⟨q.val, h⟩) else 1) else 0 := by
  pointwise [k0_pay1]
  refine congrArg _ (Finset.sum_congr rfl fun r _ => ?_)
  rw [hot]
  by_cases h : idx (ix3 0 0 r) = BitVec.ofNat 32 p.val
  · rw [if_pos h, if_pos h, one_mul]
  · rw [if_neg h, if_neg h, zero_mul]

/-- The second network's hidden layer before its rectifier, at segment `p`. -/
theorem pooled_at (n : FVec Ideal S16x1 .f32) (s : FVec Ideal S16x64 .f32) (W : FVec Ideal S64x64 .f32) (b g β : FVec Ideal S1x64 .f32) (p : Fin 16) (j : Fin 64) :
    k0_pay3 (F := Ideal) n s W b g β (ix2 p j)
      = rowNorm (dense (segPool (fun l => s (ix2 p l)) (n (ix2 p 0))) (fun j l => W (ix2 l j)) (fun j => b (ix2 0 j))) (fun j => g (ix2 0 j)) (fun j => β (ix2 0 j)) j := by
  rw [← norm_eq]
  unfold dense rowMean rowVar
  simp only [← pool_eq]
  pointwise [k0_pay3]
  rfl

/-- The result at segment `p`: the last dense layer of the second network. -/
theorem out_at (h : FVec Ideal S16x64 .f32) (W : FVec Ideal S64x8 .f32) (b : FVec Ideal S1x8 .f32) (p : Fin 16) (j : Fin 8) :
    k0_pay2 (F := Ideal) h (Ideal.ofBits .f32 0x00000000#32) W b (ix2 p j)
      = dense (fun l => max (h (ix2 p l)) 0) (fun j l => W (ix2 l j)) (fun j => b (ix2 0 j)) j := by
  pointwise [k0_pay2]
  rfl

/-- The accumulator after a block of rows, when the block's rows, segment numbers and parameters are given. -/
theorem accum_of (P : Params) (X : Fin 4096 → Fin 32 → EReal) (S : Fin 4096 → BitVec 32)
    (x : FVec Ideal S4096x32 .f32) (hx : ∀ r l, x (ix2 r l) = X r l) (idx : IVec S1x1x4096 32) (hidx : ∀ r, idx (ix3 0 0 r) = S r)
    (W0 : FVec Ideal S32x64 .f32) (hW0 : ∀ l j, W0 (ix2 l j) = P.W0 j l) (b0 g0 β0 : FVec Ideal S1x64 .f32)
    (hb0 : ∀ j, b0 (ix2 0 j) = P.b0 j) (hg0 : ∀ j, g0 (ix2 0 j) = P.g0 j) (hβ0 : ∀ j, β0 (ix2 0 j) = P.β0 j)
    (W1 : FVec Ideal S64x64 .f32) (hW1 : ∀ l j, W1 (ix2 l j) = P.W1 j l) (b1 g1 β1 : FVec Ideal S1x64 .f32)
    (hb1 : ∀ j, b1 (ix2 0 j) = P.b1 j) (hg1 : ∀ j, g1 (ix2 0 j) = P.g1 j) (hβ1 : ∀ j, β1 (ix2 0 j) = P.β1 j)
    (W2 : FVec Ideal S64x64 .f32) (hW2 : ∀ l j, W2 (ix2 l j) = P.W2 j l) (b2 : FVec Ideal S1x64 .f32) (hb2 : ∀ j, b2 (ix2 0 j) = P.b2 j)
    (acc : FVec Ideal S16x65 .f32) (p : Fin 16) (q : Fin 65) :
    k0_pay1 (F := Ideal) (k0_pay6 (k0_pay5 x W0 b0 g0 β0) W1 b1 g1 β1 W2) (k0_pay7 b2) idx acc (ix2 p q)
      = acc (ix2 p q) + ∑ r : Fin 4096, if S r = BitVec.ofNat 32 p.val then
          (if h : q.val < 64 then phi P (X r) ⟨q.val, h⟩ else 1) else 0 := by
  rw [accum_at]
  simp only [second_at, first_at, bias_at, hx, hidx, hW0, hb0, hg0, hβ0, hW1, hb1, hg1, hβ1, hW2, hb2]
  rfl

/-- The result of the last grid point, when the sums, the counts and the parameters are given. -/
theorem out_of (P : Params) (p : Fin 16) (N : EReal) (T : Fin 64 → EReal)
    (n : FVec Ideal S16x1 .f32) (hn : n (ix2 p 0) = N) (s : FVec Ideal S16x64 .f32) (hs : ∀ l, s (ix2 p l) = T l)
    (R0 : FVec Ideal S64x64 .f32) (hR0 : ∀ l j, R0 (ix2 l j) = P.R0 j l) (c0 gr βr : FVec Ideal S1x64 .f32)
    (hc0 : ∀ j, c0 (ix2 0 j) = P.c0 j) (hgr : ∀ j, gr (ix2 0 j) = P.gr j) (hβr : ∀ j, βr (ix2 0 j) = P.βr j)
    (R1 : FVec Ideal S64x8 .f32) (hR1 : ∀ l j, R1 (ix2 l j) = P.R1 j l) (c1 : FVec Ideal S1x8 .f32) (hc1 : ∀ j, c1 (ix2 0 j) = P.c1 j)
    (j : Fin 8) :
    k0_pay2 (F := Ideal) (k0_pay3 n s R0 c0 gr βr) (Ideal.ofBits .f32 0x00000000#32) R1 c1 (ix2 p j)
      = dense (fun l => max (rowNorm (dense (segPool T N) P.R0 P.c0) P.gr P.βr l) 0) P.R1 P.c1 j := by
  rw [out_at]
  simp only [pooled_at, hn, hs, hR0, hc0, hgr, hβr, hR1, hc1]

end Cert.KernelIdeal.Block

end
-- ==== Proof.Reads.lean ====
/-
  What the kernel's windows hold at a grid point, in terms of its arguments: rows `4096 * t` and on of the input and of
  the segment numbers, and the parameters, which are the same at every point.
-/
module

public import proofs.«01_k».proof.Proof.Gen.KernelIdeal.Frame.Runs
public import proofs.«01_k».proof.Proof.Rows
public import Idealize.ShloMosaic.Lib.Pipeline.ValueKit

@[expose] public section

set_option maxRecDepth 16384

noncomputable section

namespace Cert.KernelIdeal.Reads

open Idealize.ShloMosaic Idealize.ShloMosaic.TcCoe Idealize.SL.Sem
open Cert.KernelIdeal Cert.KernelIdeal.Gen Cert.DeepSets

variable (m : (ℓ : Loc nD τ sig) → Buf (Elt Ideal) ℓ) (c : Dev nD)

/-- The rows of the input. -/
def rows (r : Fin 32768) (l : Fin 32) : EReal := (show FVec Ideal S32768x32 .f32 from m ((c.tc : Thread nD τ).loc main_arg0)) (ix2 r l)
/-- The segment numbers. -/
def segs (r : Fin 32768) : BitVec 32 := (show IVec S32768 32 from m ((c.tc : Thread nD τ).loc main_arg1)) (ix1 r)
/-- The parameters. -/
def params : Params where
  W0 j l := (show FVec Ideal S64x32 .f32 from m ((c.tc : Thread nD τ).loc main_arg2)) (ix2 j l)
  b0 j := (show FVec Ideal S64 .f32 from m ((c.tc : Thread nD τ).loc main_arg3)) (ix1 j)
  g0 j := (show FVec Ideal S64 .f32 from m ((c.tc : Thread nD τ).loc main_arg4)) (ix1 j)
  β0 j := (show FVec Ideal S64 .f32 from m ((c.tc : Thread nD τ).loc main_arg5)) (ix1 j)
  W1 j l := (show FVec Ideal S64x64 .f32 from m ((c.tc : Thread nD τ).loc main_arg6)) (ix2 j l)
  b1 j := (show FVec Ideal S64 .f32 from m ((c.tc : Thread nD τ).loc main_arg7)) (ix1 j)
  g1 j := (show FVec Ideal S64 .f32 from m ((c.tc : Thread nD τ).loc main_arg8)) (ix1 j)
  β1 j := (show FVec Ideal S64 .f32 from m ((c.tc : Thread nD τ).loc main_arg9)) (ix1 j)
  W2 j l := (show FVec Ideal S64x64 .f32 from m ((c.tc : Thread nD τ).loc main_arg10)) (ix2 j l)
  b2 j := (show FVec Ideal S64 .f32 from m ((c.tc : Thread nD τ).loc main_arg11)) (ix1 j)
  R0 j l := (show FVec Ideal S64x64 .f32 from m ((c.tc : Thread nD τ).loc main_arg12)) (ix2 j l)
  c0 j := (show FVec Ideal S64 .f32 from m ((c.tc : Thread nD τ).loc main_arg13)) (ix1 j)
  gr j := (show FVec Ideal S64 .f32 from m ((c.tc : Thread nD τ).loc main_arg14)) (ix1 j)
  βr j := (show FVec Ideal S64 .f32 from m ((c.tc : Thread nD τ).loc main_arg15)) (ix1 j)
  R1 j l := (show FVec Ideal S8x64 .f32 from m ((c.tc : Thread nD τ).loc main_arg16)) (ix2 j l)
  c1 j := (show FVec Ideal S8 .f32 from m ((c.tc : Thread nD τ).loc main_arg17)) (ix1 j)

/-- Which block each window is at. -/
theorem idx : ∀ t : Fin cfg0.N, win0_0.index t = ![t.val, 0] ∧ win0_1.index t = ![t.val, 0, 0] ∧ t.val < 8
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

/-- The row of the input that row `r` of block `t` is. -/
def at_ (t : Fin cfg0.N) (r : Fin 4096) : Fin 32768 := ⟨t.val * 4096 + r.val, by have := (idx t).2.2.1; omega⟩

/-- The block of input rows. -/
theorem rows_at (t : Fin cfg0.N) (r : Fin 4096) (l : Fin 32) :
    (show FVec Ideal S4096x32 .f32 from iblk m c 0 t) (ix2 r l) = rows m c (at_ t r) l := by
  unfold rows at_
  blk_ext [iblk, V, idx t]

/-- The block of segment numbers. -/
theorem segs_at (t : Fin cfg0.N) (r : Fin 4096) :
    (show IVec S1x1x4096 32 from iblk m c 1 t) (ix3 0 0 r) = segs m c (at_ t r) := by
  unfold segs at_
  blk_simp [iblk, idx t]
  entry_read
  pointwise
  blk_ext [idx t]

/-- The weights `W0`, staged with their axes exchanged. -/
theorem W0_at (t : Fin cfg0.N) (l : Fin 32) (j : Fin 64) :
    (show FVec Ideal S32x64 .f32 from iblk m c 2 t) (ix2 l j) = (params m c).W0 j l := by
  unfold params
  blk_simp [iblk, idx t]
  entry_read
  pointwise
  blk_ext [idx t]

/-- The weights `W1`, staged with their axes exchanged. -/
theorem W1_at (t : Fin cfg0.N) (l : Fin 64) (j : Fin 64) :
    (show FVec Ideal S64x64 .f32 from iblk m c 6 t) (ix2 l j) = (params m c).W1 j l := by
  unfold params
  blk_simp [iblk, idx t]
  entry_read
  pointwise
  blk_ext [idx t]

/-- The weights `W2`, staged with their axes exchanged. -/
theorem W2_at (t : Fin cfg0.N) (l : Fin 64) (j : Fin 64) :
    (show FVec Ideal S64x64 .f32 from iblk m c 10 t) (ix2 l j) = (params m c).W2 j l := by
  unfold params
  blk_simp [iblk, idx t]
  entry_read
  pointwise
  blk_ext [idx t]

/-- The weights `R0`, staged with their axes exchanged. -/
theorem R0_at (t : Fin cfg0.N) (l : Fin 64) (j : Fin 64) :
    (show FVec Ideal S64x64 .f32 from iblk m c 12 t) (ix2 l j) = (params m c).R0 j l := by
  unfold params
  blk_simp [iblk, idx t]
  entry_read
  pointwise
  blk_ext [idx t]

/-- The weights `R1`, staged with their axes exchanged. -/
theorem R1_at (t : Fin cfg0.N) (l : Fin 64) (j : Fin 8) :
    (show FVec Ideal S64x8 .f32 from iblk m c 16 t) (ix2 l j) = (params m c).R1 j l := by
  unfold params
  blk_simp [iblk, idx t]
  entry_read
  pointwise
  blk_ext [idx t]

/-- The vector `b0`, staged as one row. -/
theorem b0_at (t : Fin cfg0.N) (j : Fin 64) :
    (show FVec Ideal S1x64 .f32 from iblk m c 3 t) (ix2 0 j) = (params m c).b0 j := by
  unfold params
  blk_simp [iblk, idx t]
  entry_read
  pointwise
  blk_ext [idx t]

/-- The vector `g0`, staged as one row. -/
theorem g0_at (t : Fin cfg0.N) (j : Fin 64) :
    (show FVec Ideal S1x64 .f32 from iblk m c 4 t) (ix2 0 j) = (params m c).g0 j := by
  unfold params
  blk_simp [iblk, idx t]
  entry_read
  pointwise
  blk_ext [idx t]

/-- The vector `β0`, staged as one row. -/
theorem β0_at (t : Fin cfg0.N) (j : Fin 64) :
    (show FVec Ideal S1x64 .f32 from iblk m c 5 t) (ix2 0 j) = (params m c).β0 j := by
  unfold params
  blk_simp [iblk, idx t]
  entry_read
  pointwise
  blk_ext [idx t]

/-- The vector `b1`, staged as one row. -/
theorem b1_at (t : Fin cfg0.N) (j : Fin 64) :
    (show FVec Ideal S1x64 .f32 from iblk m c 7 t) (ix2 0 j) = (params m c).b1 j := by
  unfold params
  blk_simp [iblk, idx t]
  entry_read
  pointwise
  blk_ext [idx t]

/-- The vector `g1`, staged as one row. -/
theorem g1_at (t : Fin cfg0.N) (j : Fin 64) :
    (show FVec Ideal S1x64 .f32 from iblk m c 8 t) (ix2 0 j) = (params m c).g1 j := by
  unfold params
  blk_simp [iblk, idx t]
  entry_read
  pointwise
  blk_ext [idx t]

/-- The vector `β1`, staged as one row. -/
theorem β1_at (t : Fin cfg0.N) (j : Fin 64) :
    (show FVec Ideal S1x64 .f32 from iblk m c 9 t) (ix2 0 j) = (params m c).β1 j := by
  unfold params
  blk_simp [iblk, idx t]
  entry_read
  pointwise
  blk_ext [idx t]

/-- The vector `b2`, staged as one row. -/
theorem b2_at (t : Fin cfg0.N) (j : Fin 64) :
    (show FVec Ideal S1x64 .f32 from iblk m c 11 t) (ix2 0 j) = (params m c).b2 j := by
  unfold params
  blk_simp [iblk, idx t]
  entry_read
  pointwise
  blk_ext [idx t]

/-- The vector `c0`, staged as one row. -/
theorem c0_at (t : Fin cfg0.N) (j : Fin 64) :
    (show FVec Ideal S1x64 .f32 from iblk m c 13 t) (ix2 0 j) = (params m c).c0 j := by
  unfold params
  blk_simp [iblk, idx t]
  entry_read
  pointwise
  blk_ext [idx t]

/-- The vector `gr`, staged as one row. -/
theorem gr_at (t : Fin cfg0.N) (j : Fin 64) :
    (show FVec Ideal S1x64 .f32 from iblk m c 14 t) (ix2 0 j) = (params m c).gr j := by
  unfold params
  blk_simp [iblk, idx t]
  entry_read
  pointwise
  blk_ext [idx t]

/-- The vector `βr`, staged as one row. -/
theorem βr_at (t : Fin cfg0.N) (j : Fin 64) :
    (show FVec Ideal S1x64 .f32 from iblk m c 15 t) (ix2 0 j) = (params m c).βr j := by
  unfold params
  blk_simp [iblk, idx t]
  entry_read
  pointwise
  blk_ext [idx t]

/-- The vector `c1`, staged as one row. -/
theorem c1_at (t : Fin cfg0.N) (j : Fin 8) :
    (show FVec Ideal S1x8 .f32 from iblk m c 17 t) (ix2 0 j) = (params m c).c1 j := by
  unfold params
  blk_simp [iblk, idx t]
  entry_read
  pointwise
  blk_ext [idx t]

end Cert.KernelIdeal.Reads

end
-- ==== Proof.Carried.lean ====
/-
  The accumulator the kernel carries from one grid point to the next, and the result it leaves at the last.
-/
module

public import proofs.«01_k».proof.Proof.Gen.KernelIdeal.Value
public import proofs.«01_k».proof.Proof.Block
public import proofs.«01_k».proof.Proof.Reads
public import Idealize.ShloMosaic.Lib.Pipeline.ValueKit
public import Idealize.ShloMosaic.Lib.Pipeline.ReadBack

@[expose] public section

set_option maxRecDepth 16384

noncomputable section

namespace Cert.KernelIdeal.Carried

open Idealize.ShloMosaic Idealize.ShloMosaic.TcCoe Idealize.SL.Sem
open Idealize.ShloMosaic.Pipeline (Dat)
open Cert.KernelIdeal Cert.KernelIdeal.Gen Cert.DeepSets Cert.KernelIdeal.Reads

variable (m : (ℓ : Loc nD τ sig) → Buf (Elt Ideal) ℓ)

/-- What grid point `t` adds into the accumulator: over the rows of its block whose segment number is `p`, the last layer
of the first network, and in the last column one for each such row. -/
def part (c : Dev nD) (t : Fin cfg0.N) (p : Fin 16) (q : Fin 65) : EReal :=
  ∑ r : Fin 4096, if segs m c (at_ t r) = BitVec.ofNat 32 p.val then
    (if h : q.val < 64 then phi (params m c) (rows m c (at_ t r)) ⟨q.val, h⟩ else 1) else 0

/-- One grid point adds its part to the accumulator. -/
theorem step_at (c : Dev nD) (t : Fin cfg0.N) (acc : FVec Ideal S16x65 .f32) (p : Fin 16) (q : Fin 65) :
    k0_pay1 (F := Ideal) (k0_pay6 (k0_pay5 (iblk m c 0 t) (iblk m c 2 t) (iblk m c 3 t) (iblk m c 4 t) (iblk m c 5 t)) (iblk m c 6 t)
        (iblk m c 7 t) (iblk m c 8 t) (iblk m c 9 t) (iblk m c 10 t)) (k0_pay7 (iblk m c 11 t)) (iblk m c 1 t) acc (ix2 p q)
      = acc (ix2 p q) + part m c t p q :=
  Block.accum_of (params m c) (fun r => rows m c (at_ t r)) (fun r => segs m c (at_ t r))
    (iblk m c 0 t) (rows_at m c t) (iblk m c 1 t) (segs_at m c t) (iblk m c 2 t) (W0_at m c t)
    (iblk m c 3 t) (iblk m c 4 t) (iblk m c 5 t) (b0_at m c t) (g0_at m c t) (β0_at m c t) (iblk m c 6 t) (W1_at m c t)
    (iblk m c 7 t) (iblk m c 8 t) (iblk m c 9 t) (b1_at m c t) (g1_at m c t) (β1_at m c t) (iblk m c 10 t) (W2_at m c t)
    (iblk m c 11 t) (b2_at m c t) acc p q

/-- The first grid point leaves its own part. -/
theorem start_at (c : Dev nD) (t : Fin cfg0.N) (h0 : t.val % 8 = 0) (p : Fin 16) (q : Fin 65) :
    (outsAt0 m c t.val t.isLt).2 (ix2 p q) = 0 + part m c t p q := by
  rw [outsAt0_A m c t h0 (by omega)]
  frame_out
  rw [step_at, Block.zero_at]

/-- Every other adds its part to what the one before left. -/
theorem next_at (c : Dev nD) (t : Fin cfg0.N) (h0 : ¬ t.val % 8 = 0) (p : Fin 16) (q : Fin 65) :
    (outsAt0 m c t.val t.isLt).2 (ix2 p q)
      = (outsAt0 m c (t.val - 1) (Nat.lt_of_le_of_lt (Nat.sub_le _ _) t.isLt)).2 (ix2 p q) + part m c t p q := by
  by_cases h1 : t.val % 8 = 7
  · rw [outsAt0_C m c t h0 h1]
    frame_out
    rw [step_at, read_unread_whole]
  · rw [outsAt0_B m c t h0 h1]
    frame_out
    rw [step_at, read_unread_whole]

/-- After the last grid point the accumulator holds every point's part. -/
theorem total_at (c : Dev nD) (p : Fin 16) (q : Fin 65) :
    (outsAt0 m c t0_7.val t0_7.isLt).2 (ix2 p q) = ∑ t : Fin cfg0.N, part m c t p q := by
  have e := Pipeline.eq_sum_fin_of_reset_step_apply_last
    (fun (n : ℕ) (h : n < cfg0.N) (i : Fin 16 × Fin 65) => ((outsAt0 m c n h).2 (ix2 i.1 i.2) : EReal)) 8 (fun _ => 0)
    (fun t i => part m c t i.1 i.2) (fun t h i => start_at m c t h i.1 i.2) (fun t h i => next_at m c t h i.1 i.2)
    (le_of_eq N_0) t0_7 rfl (p, q)
  rw [zero_add] at e
  exact e

/-- The load of the last column of the accumulator, just after it was stored. -/
theorem last_column (T : FVec Ideal S16x65 .f32) (p : Fin 16) :
    (show FVec Ideal S16x1 .f32 from (View.whole cc0_scratch0).readCov (Val := Elt Ideal) [⟨Rect.unit (s := S16x65) ![0, 0] ![16, 65] inb_S16x65_S16x65_0_0, T⟩]
      (Rect.unit (s := S16x65) ![0, 64] ![16, 1] inb_S16x65_S16x1_0_64).toLoadRect) (ix2 p 0) = T (ix2 p 64) := by
  have e := View.readCov_fill (Val := Elt Ideal) (View.whole cc0_scratch0) inb_S16x65_S16x65_0_0 T []
    (Rect.unit (s := S16x65) ![0, 64] ![16, 1] inb_S16x65_S16x1_0_64) (by decide)
  refine (congrFun e (ix2 p 0 : S16x1.Idx)).trans ?_
  refine View.ld_unit_apply_of (Val := Elt Ideal) (e := .f32) (S := S16x65) T _ _ _ _ (ix2 p 64) fun a => ?_
  fin_cases a
  · exact (Nat.zero_add _).symm
  · rfl

/-- The load of the other columns. -/
theorem columns (T : FVec Ideal S16x65 .f32) (p : Fin 16) (l : Fin 64) :
    (show FVec Ideal S16x64 .f32 from (View.whole cc0_scratch0).readCov (Val := Elt Ideal) [⟨Rect.unit (s := S16x65) ![0, 0] ![16, 65] inb_S16x65_S16x65_0_0, T⟩]
      (Rect.unit (s := S16x65) ![0, 0] ![16, 64] inb_S16x65_S16x64_0_0).toLoadRect) (ix2 p l) = T (ix2 p ⟨l.val, by omega⟩) := by
  have e := View.readCov_fill (Val := Elt Ideal) (View.whole cc0_scratch0) inb_S16x65_S16x65_0_0 T []
    (Rect.unit (s := S16x65) ![0, 0] ![16, 64] inb_S16x65_S16x64_0_0) (by decide)
  refine (congrFun e (ix2 p l : S16x64.Idx)).trans ?_
  refine View.ld_unit_apply_of (Val := Elt Ideal) (e := .f32) (S := S16x65) T _ _ _ _ (ix2 p ⟨l.val, by omega⟩) fun a => ?_
  fin_cases a
  · exact (Nat.zero_add _).symm
  · exact (Nat.zero_add _).symm

/-- There are as many rows as grid points times rows of a block. -/
theorem N_0_rows : 32768 = cfg0.N * 4096 := by rw [show cfg0.N = 8 from N_0]

/-- The sum of the points' parts is the sum over all rows. -/
theorem parts_eq (c : Dev nD) (p : Fin 16) (q : Fin 65) :
    ∑ t : Fin cfg0.N, part m c t p q
      = segSum (segs m c) (fun r => if h : q.val < 64 then phi (params m c) (rows m c r) ⟨q.val, h⟩ else 1) p := by
  unfold part segSum
  exact Fin.sum_mul_add_congr (fun t r hl => rfl) N_0_rows

/-- What the last grid point writes, in terms of the accumulator it leaves. -/
theorem written_at (c : Dev nD) (t : Fin cfg0.N) (h0 : ¬ t.val % 8 = 0) (h1 : t.val % 8 = 7) (p : Fin 16) (j : Fin 8) :
    (outsAt0 m c t.val t.isLt).1 (ix2 p j)
      = dense (fun l => max (rowNorm (dense (segPool (fun l => (outsAt0 m c t.val t.isLt).2 (ix2 p ⟨l.val, by omega⟩))
          ((outsAt0 m c t.val t.isLt).2 (ix2 p 64))) (params m c).R0 (params m c).c0) (params m c).gr (params m c).βr l) 0)
          (params m c).R1 (params m c).c1 j := by
  simp only [next_at m c t h0]
  rw [outsAt0_C m c t h0 h1]
  frame_out
  rw [read_unread_whole]
  exact Block.out_of (params m c) p _ _
    _ ((last_column _ p).trans (step_at m c t _ p 64)) _ (fun l => (columns _ p l).trans (step_at m c t _ p _)) (iblk m c 12 t) (R0_at m c t)
    (iblk m c 13 t) (iblk m c 14 t) (iblk m c 15 t) (c0_at m c t) (gr_at m c t) (βr_at m c t)
    (iblk m c 16 t) (R1_at m c t) (iblk m c 17 t) (c1_at m c t) j

/-- The result at the last grid point. -/
theorem result_at (c : Dev nD) (p : Fin 16) (j : Fin 8) :
    (outsAt0 m c t0_7.val t0_7.isLt).1 (ix2 p j) = deepSets (params m c) (rows m c) (segs m c) p j := by
  rw [written_at m c t0_7 (by decide +kernel) (by decide +kernel)]
  simp only [total_at, parts_eq]
  unfold deepSets segHidden
  simp

/-- The kernel's result array. -/
theorem G18_at (c : Dev nD) (p : Fin 16) (j : Fin 8) :
    (show FVec Ideal S16x8 .f32 from Value.G18 m c) (ix2 p j) = deepSets (params m c) (rows m c) (segs m c) p j := by
  rw [Value.G18_last, ← Value.outsAt0_sweep]
  exact result_at m c p j

end Cert.KernelIdeal.Carried

end
-- ==== Proof.Scatter.lean ====
/-
  The reference's two scatters, read at an index: the one that adds rows is a sum over the rows whose index is the
  segment, and the one that adds ones counts them.
-/
module

public import proofs.«01_k».proof.Proof.Gen.ReferenceIdeal.Run
public import proofs.«01_k».proof.Proof.Rows
public import Idealize.ShloMosaic.Lib.Pointwise
public import Idealize.ShloMosaic.Lib.Routing.OpsPair

@[expose] public section

set_option maxRecDepth 16384

noncomputable section

namespace Cert.ReferenceIdeal.Scatter

open Idealize.ShloMosaic Idealize.ShloMosaic.TcCoe Idealize.SL.Sem
open Cert.ReferenceIdeal Cert.ReferenceIdeal.Gen Cert.DeepSets

/-- A word reads as the segment `p` exactly when it is the word of `p`. -/
theorem toInt_eq (b : BitVec 32) (p : Fin 16) : b.toInt = (p.val : Int) ↔ b = BitVec.ofNat 32 p.val := by
  have e : (BitVec.ofNat 32 p.val).toInt = (p.val : Int) := by
    have hp := p.isLt
    rw [BitVec.toInt_eq_toNat_of_msb, BitVec.toNat_ofNat, Nat.mod_eq_of_lt (by omega)]
    rw [BitVec.msb_eq_false_iff_two_mul_lt, BitVec.toNat_ofNat, Nat.mod_eq_of_lt (by omega)]
    omega
  constructor
  · intro h; exact BitVec.eq_of_toInt_eq (h.trans e.symm)
  · rintro rfl; exact e

/-- Where row `r`, lane `l'` of the updates lands. -/
theorem lands_row (idx : IVec S32768x1 32) (r : Fin 32768) (l' : Fin 64) (p : Fin 16) (l : Fin 64) :
    scatter_S16x64_S32768x1_S32768x64_1_0_0_1.resultIdx? (ix2 r l') idx = some (ix2 p l)
      ↔ idx (ix2 r 0) = BitVec.ofNat 32 p.val ∧ l' = l := by
  rw [Routing.resultIdx?_eq_some]
  refine Iff.trans Fin.forall_fin_two ?_
  have h0 : scatter_S16x64_S32768x1_S32768x64_1_0_0_1.start (ix2 r l') idx 0 = (idx (ix2 r 0)).toInt := by
    unfold ScatterDims.start
    rw [dif_pos (by decide)]
    refine congrArg (fun i => (idx i).toInt) (funext fun a => Fin.ext ?_)
    fin_cases a <;> rfl
  have h1 : scatter_S16x64_S32768x1_S32768x64_1_0_0_1.start (ix2 r l') idx 1 = 0 := rfl
  have w0 : scatter_S16x64_S32768x1_S32768x64_1_0_0_1.window (ix2 r l') 0 = 0 := rfl
  have w1 : scatter_S16x64_S32768x1_S32768x64_1_0_0_1.window (ix2 r l') 1 = l'.val := rfl
  rw [h0, h1, w0, w1]
  show _ + ((0 : ℕ) : Int) = ((p.val : ℕ) : Int) ∧ (0 : Int) + ((l'.val : ℕ) : Int) = ((l.val : ℕ) : Int) ↔ _
  rw [← toInt_eq, Fin.ext_iff]
  omega

/-- Where one of the ones lands. -/
theorem lands_one (idx : IVec S32768x1 32) (r : Fin 32768) (p : Fin 16) :
    scatter_S16_S32768x1_S32768_n_0_0_1.resultIdx? (ix1 r) idx = some (ix1 p) ↔ idx (ix2 r 0) = BitVec.ofNat 32 p.val := by
  rw [Routing.resultIdx?_eq_some]
  have h0 : scatter_S16_S32768x1_S32768_n_0_0_1.start (ix1 r) idx 0 = (idx (ix2 r 0)).toInt := by
    unfold ScatterDims.start
    rw [dif_pos (by decide)]
    refine congrArg (fun i => (idx i).toInt) (funext fun a => Fin.ext ?_)
    fin_cases a <;> rfl
  have w0 : scatter_S16_S32768x1_S32768_n_0_0_1.window (ix1 r) 0 = 0 := rfl
  refine Iff.trans Fin.forall_fin_one ?_
  rw [h0, w0]
  show _ + ((0 : ℕ) : Int) = ((p.val : ℕ) : Int) ↔ _
  rw [← toInt_eq]
  omega

/-- The scatter that adds rows: what was there and the rows whose index is `p`. -/
theorem rows_at (x : FVec Ideal S16x64 .f32) (idx : IVec S32768x1 32) (upd : FVec Ideal S32768x64 .f32) (p : Fin 16) (l : Fin 64) :
    Host.scatterAdd (F := Ideal) scatter_S16x64_S32768x1_S32768x64_1_0_0_1 x idx upd (ix2 p l)
      = x (ix2 p l) + ∑ r : Fin 32768, if idx (ix2 r 0) = BitVec.ofNat 32 p.val then upd (ix2 r l) else 0 := by
  show x (ix2 p l) + ∑ j ∈ Finset.univ.filter (fun j => scatter_S16x64_S32768x1_S32768x64_1_0_0_1.resultIdx? j idx = some (ix2 p l)), upd j = _
  refine congrArg _ ?_
  rw [Finset.sum_filter, sum_idx2]
  refine Finset.sum_congr rfl fun r _ => ?_
  simp only [lands_row]
  by_cases h : idx (ix2 r 0) = BitVec.ofNat 32 p.val
  · simp [h]
  · simp [h]

/-- Adding a one for each entry of a list that satisfies `q` counts those entries. -/
theorem fold_ones {ι : Type} (q : ι → Prop) [DecidablePred q] (L : List ι) (a : BitVec 32) :
    L.foldl (fun a n => if q n then IntOp.addi a 1#32 else a) a = a + BitVec.ofNat 32 (L.map fun n => if q n then 1 else 0).sum := by
  induction L generalizing a with
  | nil => simp
  | cons n L ih =>
    rw [List.foldl_cons, ih, List.map_cons, List.sum_cons]
    by_cases h : q n
    · rw [if_pos h, if_pos h, BitVec.ofNat_add, ← BitVec.add_assoc]
      rfl
    · rw [if_neg h, if_neg h, Nat.zero_add]

/-- The scatter that adds ones: the number of rows whose index is `p`, as a word. -/
theorem ones_at (x : IVec S16 32) (hx : ∀ i, x i = 0#32) (idx : IVec S32768x1 32) (upd : IVec S32768 32) (hu : ∀ i, upd i = 1#32) (p : Fin 16) :
    Host.scatter scatter_S16_S32768x1_S32768_n_0_0_1 IntOp.addi x idx upd (ix1 p)
      = BitVec.ofNat 32 (∑ r : Fin 32768, if idx (ix2 r 0) = BitVec.ofNat 32 p.val then 1 else 0) := by
  rw [Routing.scatter_at]
  simp only [hu, hx]
  rw [fold_ones, ← Fin.sum_univ_def, BitVec.zero_add]
  refine congrArg _ ?_
  rw [Equiv.sum_comp S32768.rowMajor.symm (fun i => if scatter_S16_S32768x1_S32768_n_0_0_1.resultIdx? i idx = some (ix1 p) then 1 else 0), sum_idx1]
  refine Finset.sum_congr rfl fun r _ => ?_
  simp only [lands_one]

/-- That word, as a real number, is the size of the segment. -/
theorem count_eq (idx : Fin 32768 → BitVec 32) (p : Fin 16) :
    (((BitVec.ofNat 32 (∑ r : Fin 32768, if idx r = BitVec.ofNat 32 p.val then 1 else 0)).toInt : ℝ) : EReal) = segSum idx (fun _ => 1) p := by
  have hle : (∑ r : Fin 32768, if idx r = BitVec.ofNat 32 p.val then 1 else 0) ≤ 32768 := by
    refine (Finset.sum_le_card_nsmul _ _ 1 fun r _ => ?_).trans (by simp)
    split <;> omega
  have hs : segSum idx (fun _ => 1) p = (((∑ r : Fin 32768, if idx r = BitVec.ofNat 32 p.val then 1 else 0 : ℕ) : ℝ) : EReal) := by
    unfold segSum
    rw [show ∀ n : ℕ, (((n : ℕ) : ℝ) : EReal) = (n : EReal) from fun n => rfl, Nat.cast_sum]
    refine Finset.sum_congr rfl fun r _ => ?_
    split <;> simp
  rw [hs]
  generalize (∑ r : Fin 32768, if idx r = BitVec.ofNat 32 p.val then 1 else 0 : ℕ) = k at hle
  have e : (BitVec.ofNat 32 k).toInt = (k : Int) := by
    rw [BitVec.toInt_eq_toNat_of_msb, BitVec.toNat_ofNat, Nat.mod_eq_of_lt (by omega)]
    rw [BitVec.msb_eq_false_iff_two_mul_lt, BitVec.toNat_ofNat, Nat.mod_eq_of_lt (by omega)]
    omega
  rw [e, Int.cast_natCast]

end Cert.ReferenceIdeal.Scatter

end
-- ==== Proof.Reference.lean ====
/-
  What the reference computes, read at an index: its three dense layers row by row, and its second network segment by
  segment over its two scatters.
-/
module

public import proofs.«01_k».proof.Proof.Gen.ReferenceIdeal.Run
public import proofs.«01_k».proof.Proof.Scatter
public import Idealize.ShloMosaic.Lib.Pointwise
public import Idealize.ShloMosaic.Lib.WordArith

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.DeepSets

variable (V0 : Valuation τ sig (Elt Ideal))

/-- The rows of the input. -/
def rows (r : Fin 32768) (l : Fin 32) : EReal := (show FVec Ideal S32768x32 .f32 from V0 (Proc.devRef .tc main_arg0)) (ix2 r l)
/-- The segment numbers. -/
def segs (r : Fin 32768) : BitVec 32 := (show IVec S32768 32 from V0 (Proc.devRef .tc main_arg1)) (ix1 r)
/-- The parameters. -/
def params : Params where
  W0 j l := (show FVec Ideal S64x32 .f32 from V0 (Proc.devRef .tc main_arg2)) (ix2 j l)
  b0 j := (show FVec Ideal S64 .f32 from V0 (Proc.devRef .tc main_arg3)) (ix1 j)
  g0 j := (show FVec Ideal S64 .f32 from V0 (Proc.devRef .tc main_arg4)) (ix1 j)
  β0 j := (show FVec Ideal S64 .f32 from V0 (Proc.devRef .tc main_arg5)) (ix1 j)
  W1 j l := (show FVec Ideal S64x64 .f32 from V0 (Proc.devRef .tc main_arg6)) (ix2 j l)
  b1 j := (show FVec Ideal S64 .f32 from V0 (Proc.devRef .tc main_arg7)) (ix1 j)
  g1 j := (show FVec Ideal S64 .f32 from V0 (Proc.devRef .tc main_arg8)) (ix1 j)
  β1 j := (show FVec Ideal S64 .f32 from V0 (Proc.devRef .tc main_arg9)) (ix1 j)
  W2 j l := (show FVec Ideal S64x64 .f32 from V0 (Proc.devRef .tc main_arg10)) (ix2 j l)
  b2 j := (show FVec Ideal S64 .f32 from V0 (Proc.devRef .tc main_arg11)) (ix1 j)
  R0 j l := (show FVec Ideal S64x64 .f32 from V0 (Proc.devRef .tc main_arg12)) (ix2 j l)
  c0 j := (show FVec Ideal S64 .f32 from V0 (Proc.devRef .tc main_arg13)) (ix1 j)
  gr j := (show FVec Ideal S64 .f32 from V0 (Proc.devRef .tc main_arg14)) (ix1 j)
  βr j := (show FVec Ideal S64 .f32 from V0 (Proc.devRef .tc main_arg15)) (ix1 j)
  R1 j l := (show FVec Ideal S8x64 .f32 from V0 (Proc.devRef .tc main_arg16)) (ix2 j l)
  c1 j := (show FVec Ideal S8 .f32 from V0 (Proc.devRef .tc main_arg17)) (ix1 j)

/-- The first dense layer. -/
theorem first_at (r : Fin 32768) (j : Fin 64) :
    (show FVec Ideal S32768x64 .f32 from res_main_v4 V0) (ix2 r j) = dense (rows V0 r) (params V0).W0 (params V0).b0 j := by
  pointwise [res_main_v4]
  rfl

/-- The mean of its row. -/
theorem first_mean (r : Fin 32768) :
    (show FVec Ideal S32768x1 .f32 from res_main_v8 V0) (ix2 r 0) = rowMean (dense (rows V0 r) (params V0).W0 (params V0).b0) := by
  unfold rowMean
  simp only [← first_at]
  pointwise [res_main_v8]

/-- Its row less the mean. -/
theorem first_off (r : Fin 32768) (j : Fin 64) :
    (show FVec Ideal S32768x64 .f32 from res_main_v10 V0) (ix2 r j)
      = dense (rows V0 r) (params V0).W0 (params V0).b0 j - rowMean (dense (rows V0 r) (params V0).W0 (params V0).b0) := by
  rw [← first_at, ← first_mean]
  pointwise [res_main_v10]

/-- The second dense layer, on the first hidden layer. -/
theorem second_at (r : Fin 32768) (j : Fin 64) :
    (show FVec Ideal S32768x64 .f32 from res_main_v34 V0) (ix2 r j)
      = dense (rowHidden (rows V0 r) (params V0).W0 (params V0).b0 (params V0).g0 (params V0).β0) (params V0).W1 (params V0).b1 j := by
  pointwise [res_main_v34]
  simp only [first_at, first_off, first_mean]
  rfl

/-- The mean of its row. -/
theorem second_mean (r : Fin 32768) :
    (show FVec Ideal S32768x1 .f32 from res_main_v38 V0) (ix2 r 0)
      = rowMean (dense (rowHidden (rows V0 r) (params V0).W0 (params V0).b0 (params V0).g0 (params V0).β0) (params V0).W1 (params V0).b1) := by
  unfold rowMean
  simp only [← second_at]
  pointwise [res_main_v38]

/-- Its row less the mean. -/
theorem second_off (r : Fin 32768) (j : Fin 64) :
    (show FVec Ideal S32768x64 .f32 from res_main_v40 V0) (ix2 r j)
      = dense (rowHidden (rows V0 r) (params V0).W0 (params V0).b0 (params V0).g0 (params V0).β0) (params V0).W1 (params V0).b1 j
        - rowMean (dense (rowHidden (rows V0 r) (params V0).W0 (params V0).b0 (params V0).g0 (params V0).β0) (params V0).W1 (params V0).b1) := by
  rw [← second_at, ← second_mean]
  pointwise [res_main_v40]

/-- The reference's index for its count is the segment number itself when that is not negative. -/
theorem clipped_at (r : Fin 32768) (h : 0 ≤ (segs V0 r).toInt) :
    (show IVec S32768 32 from res_main_v66 V0) (ix1 r) = segs V0 r := by
  pointwise [res_main_v66]
  change IntOp.maxsi 0#32 (segs V0 r) = segs V0 r
  refine BitVec.eq_of_toInt_eq ?_
  rw [WordArith.toInt_maxsi_zero]
  omega

/-- The reference's index for its count, after its wrap of negative numbers, is the segment number. -/
theorem wrapped_at (r : Fin 32768) (h : 0 ≤ (segs V0 r).toInt) :
    broadcastInDim S32768x1 ![0] bcast_S32768_S32768x1_0
      (select (cmpi .slt (res_main_v66 V0) (broadcastInDim S32768 ![] bcast_S_S32768 (constantI S_ 32 0#32)))
        (addi (res_main_v66 V0) (broadcastInDim S32768 ![] bcast_S_S32768 (constantI S_ 32 16#32)))
        (res_main_v66 V0)) (ix2 r 0) = segs V0 r := by
  pointwise
  simp only [clipped_at V0 r h]
  show Scalar.select (IntOp.cmpi .slt (segs V0 r) 0#32) _ _ = _
  refine Routing.wrap_of_lt _ _ ?_
  have e := BitVec.toInt_eq_toNat_cond (segs V0 r)
  have := (segs V0 r).isLt
  show _ < 2 ^ 31
  omega

/-- The reference's count, as a number, is the size of the segment. -/
theorem counted_at (h : ∀ r, 0 ≤ (segs V0 r).toInt) (p : Fin 16) :
    FloatOps.sitofp (F := Ideal) .f32 (Host.scatter scatter_S16_S32768x1_S32768_n_0_0_1 IntOp.addi
      (broadcastInDim S16 ![] bcast_S_S16 (constantI S_ 32 0#32))
      (broadcastInDim S32768x1 ![0] bcast_S32768_S32768x1_0
        (select (cmpi .slt (res_main_v66 V0) (broadcastInDim S32768 ![] bcast_S_S32768 (constantI S_ 32 0#32)))
          (addi (res_main_v66 V0) (broadcastInDim S32768 ![] bcast_S_S32768 (constantI S_ 32 16#32)))
          (res_main_v66 V0)))
      (broadcastInDim S32768 ![] bcast_S_S32768 (constantI S_ 32 1#32)) (ix1 p)) = segSum (segs V0) (fun _ => 1) p := by
  refine (congrArg (fun b : BitVec 32 => ((b.toInt : ℝ) : EReal)) (Scatter.ones_at _ (fun _ => rfl) _ _ (fun _ => rfl) p)).trans ?_
  simp only [wrapped_at V0 _ (h _)]
  exact Scatter.count_eq (segs V0) p

/-- The dense layer after the pooling, at segment `p`. -/
theorem pooled_at (h : ∀ r, 0 ≤ (segs V0 r).toInt) (p : Fin 16) (j : Fin 64) :
    (show FVec Ideal S16x64 .f32 from res_main_v89 V0) (ix2 p j) = segHidden (params V0) (rows V0) (segs V0) p j := by
  pointwise [res_main_v89]
  simp only [Scatter.rows_at]
  pointwise
  simp only [second_at, second_off, second_mean, counted_at V0 h]
  rfl

/-- The mean of its row. -/
theorem pooled_mean (h : ∀ r, 0 ≤ (segs V0 r).toInt) (p : Fin 16) :
    (show FVec Ideal S16x1 .f32 from res_main_v93 V0) (ix2 p 0) = rowMean (segHidden (params V0) (rows V0) (segs V0) p) := by
  unfold rowMean
  simp only [← pooled_at V0 h]
  pointwise [res_main_v93]

/-- Its row less the mean. -/
theorem pooled_off (h : ∀ r, 0 ≤ (segs V0 r).toInt) (p : Fin 16) (j : Fin 64) :
    (show FVec Ideal S16x64 .f32 from res_main_v95 V0) (ix2 p j)
      = segHidden (params V0) (rows V0) (segs V0) p j - rowMean (segHidden (params V0) (rows V0) (segs V0) p) := by
  rw [← pooled_at V0 h, ← pooled_mean V0 h]
  pointwise [res_main_v95]

/-- The reference's result over its arguments. -/
def result {F : FTy → Type} [FloatOps F] (V0 : Valuation τ sig (Elt F)) : (Proc.devRef .tc main_v119 : DevRef τ sig).ty.Contents (Elt F) :=
  addf (Host.dotGeneral dot_S16x64_S64x8_S16x8_1_0_0_1_n_n none (maximumf (addf (mulf (Host.divf (subf (res_main_v89 V0) (broadcastInDim S16x64 ![0, 1] bcast_S16x1_S16x64_0_1 (res_main_v93 V0))) (broadcastInDim S16x64 ![0, 1] bcast_S16x1_S16x64_0_1 (Host.sqrt (addf (Host.divf (broadcastInDim S16x1 ![0] bcast_S16_S16x1_0 (Host.reduceAdd (mulf (res_main_v95 V0) (res_main_v95 V0)) (constant S_ .f32 0x00000000#32) reducesTo_S16x64_S16_d1 h_S_)) (broadcastInDim S16x1 ![] bcast_S_S16x1 (constant S_ .f32 0x42800000#32))) (broadcastInDim S16x1 ![] bcast_S_S16x1 (constant S_ .f32 0x3727C5AC#32)))))) (broadcastInDim S16x64 ![0, 1] bcast_S1x64_S16x64_0_1 (broadcastInDim S1x64 ![1] bcast_S64_S1x64_1 (V0 (Proc.devRef .tc main_arg14))))) (broadcastInDim S16x64 ![0, 1] bcast_S1x64_S16x64_0_1 (broadcastInDim S1x64 ![1] bcast_S64_S1x64_1 (V0 (Proc.devRef .tc main_arg15))))) (broadcastInDim S16x64 ![] bcast_S_S16x64 (constant S_ .f32 0x00000000#32))) (transpose S64x8 [1, 0] (V0 (Proc.devRef .tc main_arg16)) transposes_S8x64_S64x8_1_0)) (broadcastInDim S16x8 ![0, 1] bcast_S1x8_S16x8_0_1 (broadcastInDim S1x8 ![1] bcast_S8_S1x8_1 (V0 (Proc.devRef .tc main_arg17))))

/-- The reference's result, read at an index, is the two networks' value there. -/
theorem result_at (h : ∀ r, 0 ≤ (segs V0 r).toInt) (p : Fin 16) (j : Fin 8) :
    (show FVec Ideal S16x8 .f32 from result V0) (ix2 p j) = deepSets (params V0) (rows V0) (segs V0) p j := by
  pointwise [result]
  simp only [pooled_at V0 h, pooled_off V0 h, pooled_mean V0 h]
  rfl

end Cert.ReferenceIdeal.Rows

end
-- ==== Proof.Segments.lean ====
/-
  The precondition read at a row: no segment number is negative.
-/
module

public import proofs.«01_k».proof.Proof.Gen.Pre_segments_not_negative
public import Idealize.ShloMosaic.Lib.ReduceAll
public import Idealize.ShloMosaic.Lib.Pointwise

@[expose] public section

set_option maxRecDepth 16384

noncomputable section

namespace Cert.Pre_segments_not_negative.Read

open Idealize.ShloMosaic Cert.Pre_segments_not_negative Cert.Pre_segments_not_negative.Gen

/-- When the precondition's function answers one, no segment number is negative. -/
theorem nonneg (a0 : FVec Ideal S32768x32 .f32) (a1 : IVec S32768 32) (a2 : FVec Ideal S64x32 .f32) (a3 a4 a5 : FVec Ideal S64 .f32)
    (a6 : FVec Ideal S64x64 .f32) (a7 a8 a9 : FVec Ideal S64 .f32) (a10 : FVec Ideal S64x64 .f32) (a11 : FVec Ideal S64 .f32)
    (a12 : FVec Ideal S64x64 .f32) (a13 a14 a15 : FVec Ideal S64 .f32) (a16 : FVec Ideal S8x64 .f32) (a17 : FVec Ideal S8 .f32)
    (h : fn (F := Ideal) a0 a1 a2 a3 a4 a5 a6 a7 a8 a9 a10 a11 a12 a13 a14 a15 a16 a17 = fun _ => 1#1) (r : Fin 32768) :
    0 ≤ (a1 (ix1 r)).toInt := by
  haveI : Subsingleton S_.Idx := ⟨fun a b => funext fun k => k.elim0⟩
  have h1 := congrFun h (Shape.Idx.first h_S_)
  unfold fn at h1
  have e := Host.reduce_andi_all _ _ _ _ _ h1 (ix1 r)
  replace e : IntOp.cmpi .sge (a1 (ix1 r)) 0#32 = 1#1 := by
    rw [← e]; pointwise
  by_contra hn
  simp [IntOp.cmpi, BitVec.sle, BitVec.ofBool, hn] at e

end Cert.Pre_segments_not_negative.Read

end
-- ==== Proof.lean ====
/-
  The claims put together: the frames of the three programs, and the equality of the kernel's result and the
  reference's, each being the two networks' value on the arguments (`Cert.DeepSets.deepSets`).
-/
module

public import proofs.«01_k».proof.Defs
public import proofs.«01_k».proof.Proof.Gen.Kernel.Frame
public import proofs.«01_k».proof.Proof.Gen.KernelIdeal.Value
public import proofs.«01_k».proof.Proof.Gen.Pre_segments_not_negative
public import proofs.«01_k».proof.Proof.Gen.ReferenceIdeal.Run
public import proofs.«01_k».proof.Proof.Carried
public import proofs.«01_k».proof.Proof.Reference
public import proofs.«01_k».proof.Proof.Segments
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end and changes no argument array. -/
theorem reference_quiet : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the condition on the segment numbers. -/
theorem reference_quiet_pre : quiescent_ReferenceIdeal_pre_segments_not_negative := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result array when no segment number is negative. -/
theorem same_result : algebraic_KernelIdeal_ReferenceIdeal_pre_segments_not_negative := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6, a7, a8, a9, a10, a11, a12, a13, a14, a15, a16, a17⟩ := hagree c
  have hrows : Cert.ReferenceIdeal.Rows.rows (StableHlo.launchContents m' c) = Cert.KernelIdeal.Reads.rows m c := by
    funext r l
    exact congrFun a0 (ix2 r l)
  have hsegs : Cert.ReferenceIdeal.Rows.segs (StableHlo.launchContents m' c) = Cert.KernelIdeal.Reads.segs m c := by
    funext r
    exact congrFun a1 (ix1 r)
  have hparams : Cert.ReferenceIdeal.Rows.params (StableHlo.launchContents m' c) = Cert.KernelIdeal.Reads.params m c := by
    unfold Cert.ReferenceIdeal.Rows.params Cert.KernelIdeal.Reads.params
    congr 1
    · funext j l; exact congrFun a2 (ix2 j l)
    · funext j; exact congrFun a3 (ix1 j)
    · funext j; exact congrFun a4 (ix1 j)
    · funext j; exact congrFun a5 (ix1 j)
    · funext j l; exact congrFun a6 (ix2 j l)
    · funext j; exact congrFun a7 (ix1 j)
    · funext j; exact congrFun a8 (ix1 j)
    · funext j; exact congrFun a9 (ix1 j)
    · funext j l; exact congrFun a10 (ix2 j l)
    · funext j; exact congrFun a11 (ix1 j)
    · funext j l; exact congrFun a12 (ix2 j l)
    · funext j; exact congrFun a13 (ix1 j)
    · funext j; exact congrFun a14 (ix1 j)
    · funext j; exact congrFun a15 (ix1 j)
    · funext j l; exact congrFun a16 (ix2 j l)
    · funext j; exact congrFun a17 (ix1 j)
  have hpos : ∀ r, 0 ≤ (Cert.ReferenceIdeal.Rows.segs (StableHlo.launchContents m' c) r).toInt := by
    rw [hsegs]
    exact Cert.Pre_segments_not_negative.Read.nonneg _ _ _ _ _ _ _ _ _ _ _ _ _ _ _ _ _ _ (hpre c)
  refine Eq.trans (b := Cert.ReferenceIdeal.Rows.result (StableHlo.launchContents m' c)) rfl ?_
  funext i
  rw [show i = ix2 (i 0) (i 1) from eq_ix2 i]
  refine (Cert.ReferenceIdeal.Rows.result_at (StableHlo.launchContents m' c) hpos (i 0) (i 1)).trans ?_
  rw [hparams, hrows, hsegs]
  exact (Cert.KernelIdeal.Carried.G18_at m c (i 0) (i 1)).symm

/-- All the claims together. -/
theorem claim : Cert.Claim := ⟨Cert.Kernel.Gen.facts, Cert.KernelIdeal.Gen.facts, Cert.ReferenceIdeal.Gen.facts, Cert.Pre_segments_not_negative.Gen.facts,
  fun m ρ _ => Cert.Kernel.Gen.frame m ρ, fun m ρ _ => Cert.KernelIdeal.Gen.frame m ρ, fun m ρ _ => Cert.KernelIdeal.Gen.frame m ρ,
  reference_quiet, reference_quiet_pre, (trivial : preserves_Kernel_KernelIdeal), same_result⟩

end Cert.Proof

end
